-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "step" .f32 0x3ACCCCCD#32 ((1 / 640 : ℝ) : EReal)
  ∧ IdealRules.named_const.Statement Cert.KernelIdeal.κ "neg_log" .f32 0xC1135D8E#32 ((-(Real.log 10000) : ℝ) : EReal)
  ∧ IdealRules.named_const.Statement Cert.KernelIdeal.κ "inv_pi" .f32 0x3EA2F983#32 ((Real.pi⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_close_pre_in_range [hKernelIdeal : Cert.KernelIdeal.Facts] [hPre_in_range : Cert.Pre_in_range.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_close.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v1))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_close : Cert.Post_close.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_close_pre_in_range (hKernelIdeal := hKernelIdeal) (hPre_in_range := hPre_in_range) (hPost_close := hPost_close)
-- ==== Post_close.lean ====
abbrev S65536 : Shape := ⟨1, ![65536]⟩
abbrev S65536x1280 : Shape := ⟨2, ![65536, 1280]⟩
abbrev S1280 : Shape := ⟨1, ![1280]⟩
abbrev S_ : Shape := ⟨0, ![]⟩
abbrev S65536x1 : Shape := ⟨2, ![65536, 1]⟩
abbrev S1x1280 : Shape := ⟨2, ![1, 1280]⟩

class Facts : Prop where
  bcast_S_S1280 : S_.BroadcastsInDim S1280 (![] : Fin 0 → Fin S1280.rank)
  bcast_S65536_S65536x1_0 : S65536.BroadcastsInDim S65536x1 (![0] : Fin 1 → Fin S65536x1.rank)
  bcast_S1280_S1x1280_1 : S1280.BroadcastsInDim S1x1280 (![1] : Fin 1 → Fin S1x1280.rank)
  bcast_S65536x1_S65536x1280_0_1 : S65536x1.BroadcastsInDim S65536x1280 (![0, 1] : Fin 2 → Fin S65536x1280.rank)
  bcast_S1x1280_S65536x1280_0_1 : S1x1280.BroadcastsInDim S65536x1280 (![0, 1] : Fin 2 → Fin S65536x1280.rank)
  bcast_S_S65536x1280 : S_.BroadcastsInDim S65536x1280 (![] : Fin 0 → Fin S65536x1280.rank)

variable [Facts]

def fn_where {F : FTy → Type} [FloatOps F] (arg0 : IVec S1280 1) (arg1 : IVec S1280 32) (arg2 : IVec S1280 32) : IVec S1280 32 :=
  let v0 : IVec S1280 32 := select arg0 arg1 arg2
  v0

def fn_floor_divide {F : FTy → Type} [FloatOps F] (arg0 : IVec S1280 32) (arg1 : IVec S_ 32) : IVec S1280 32 :=
  let v0 : IVec S_ 32 := id arg1
  let v1 : IVec S1280 32 := broadcastInDim S1280 ![] bcast_S_S1280 v0
  let v2 : IVec S1280 32 := Host.divsi arg0 v1
  let v3 : IVec S1280 32 := signi arg0
  let v4 : IVec S_ 32 := signi v0
  let v5 : IVec S1280 32 := broadcastInDim S1280 ![] bcast_S_S1280 v4
  let v6 : IVec S1280 1 := cmpi .ne v3 v5
  let v7 : IVec S1280 32 := broadcastInDim S1280 ![] bcast_S_S1280 v0
  let v8 : IVec S1280 32 := Host.remsi arg0 v7
  let c : IVec S_ 32 := constantI S_ 32 0#32
  let v9 : IVec S1280 32 := broadcastInDim S1280 ![] bcast_S_S1280 c
  let v10 : IVec S1280 1 := cmpi .ne v8 v9
  let v11 : IVec S1280 1 := andi v6 v10
  let c_0 : IVec S_ 32 := constantI S_ 32 1#32
  let v12 : IVec S1280 32 := broadcastInDim S1280 ![] bcast_S_S1280 c_0
  let v13 : IVec S1280 32 := subi v2 v12
  let v14 : IVec S1280 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1280 32) (arg1 : IVec S_ 32) : IVec S1280 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S1280 32 := broadcastInDim S1280 ![] bcast_S_S1280 v2
  let v4 : IVec S1280 32 := Host.remsi arg0 v3
  let c_1 : IVec S_ 32 := constantI S_ 32 0#32
  let v5 : IVec S1280 32 := broadcastInDim S1280 ![] bcast_S_S1280 c_1
  let v6 : IVec S1280 1 := cmpi .ne v4 v5
  let c_2 : IVec S_ 32 := constantI S_ 32 0#32
  let v7 : IVec S1280 32 := broadcastInDim S1280 ![] bcast_S_S1280 c_2
  let v8 : IVec S1280 1 := cmpi .slt v4 v7
  let c_3 : IVec S_ 32 := constantI S_ 32 0#32
  let v9 : IVec S_ 1 := cmpi .slt v2 c_3
  let v10 : IVec S1280 1 := broadcastInDim S1280 ![] bcast_S_S1280 v9
  let v11 : IVec S1280 1 := cmpi .ne v8 v10
  let v12 : IVec S1280 1 := andi v11 v6
  let v13 : IVec S1280 32 := broadcastInDim S1280 ![] bcast_S_S1280 v2
  let v14 : IVec S1280 32 := addi v4 v13
  let v15 : IVec S1280 32 := select v12 v14 v4
  v15

def fn_where_1 {F : FTy → Type} [FloatOps F] (arg0 : IVec S1x1280 1) (arg1 : FVec F S65536x1280 .f32) (arg2 : FVec F S65536x1280 .f32) : FVec F S65536x1280 .f32 :=
  let v0 : IVec S65536x1280 1 := broadcastInDim S65536x1280 ![0, 1] bcast_S1x1280_S65536x1280_0_1 arg0
  let v1 : FVec F S65536x1280 .f32 := select v0 arg1 arg2
  v1

def fn_part1 {F : FTy → Type} [FloatOps F] (main_arg1 : FVec F S65536x1280 .f32) (main_v14 : FVec F S65536x1280 .f32) (main_v17 : IVec S1280 1) : IVec S65536x1280 1 :=
  let main_v18 : IVec S1x1280 1 := broadcastInDim S1x1280 ![1] bcast_S1280_S1x1280_1 main_v17
  let main_v19 : FVec F S65536x1280 .f32 := Host.sin main_v14
  let main_v20 : FVec F S65536x1280 .f32 := Host.cos main_v14
  let main_v21 : FVec F S65536x1280 .f32 := fn_where_1 (F := F) main_v18 main_v19 main_v20
  let main_v22 : FVec F S65536x1280 .f32 := subf main_arg1 main_v21
  let main_v23 : FVec F S65536x1280 .f32 := Host.absf main_v22
  let main_cst_4 : FVec F S_ .f32 := constant S_ .f32 0x3C23D70A#32
  let main_v24 : FVec F S65536x1280 .f32 := broadcastInDim S65536x1280 ![] bcast_S_S65536x1280 main_cst_4
  let main_v25 : IVec S65536x1280 1 := cmpf .ole main_v23 main_v24
  main_v25

def fn {F : FTy → Type} [FloatOps F] (main_arg0 : FVec F S65536 .f32) (main_arg1 : FVec F S65536x1280 .f32) : IVec S65536x1280 1 :=
  let main_v0 : IVec S1280 32 := iotaInDim S1280 32 0
  let main_c : IVec S_ 32 := constantI S_ 32 2#32
  let main_v1 : IVec S1280 32 := fn_floor_divide (F := F) main_v0 main_c
  let main_v2 : FVec F S1280 .f32 := sitofp .f32 main_v1
  let main_cst : FVec F S_ .f32 := constant S_ .f32 0x40000000#32
  let main_v3 : FVec F S1280 .f32 := broadcastInDim S1280 ![] bcast_S_S1280 main_cst
  let main_v4 : FVec F S1280 .f32 := mulf main_v3 main_v2
  let main_cst_0 : FVec F S_ .f32 := constant S_ .f32 0x44A00000#32
  let main_v5 : FVec F S1280 .f32 := broadcastInDim S1280 ![] bcast_S_S1280 main_cst_0
  let main_v6 : FVec F S1280 .f32 := Host.divf main_v4 main_v5
  let main_v7 : FVec F S1280 .f32 := Host.negf main_v6
  let main_cst_1 : FVec F S_ .f32 := constant S_ .f32 0x461C4000#32
  let main_v8 : FVec F S1280 .f32 := broadcastInDim S1280 ![] bcast_S_S1280 main_cst_1
  let main_v9 : FVec F S1280 .f32 := Host.powf main_v8 main_v7
  let main_v10 : FVec F S65536x1 .f32 := broadcastInDim S65536x1 ![0] bcast_S65536_S65536x1_0 main_arg0
  let main_v11 : FVec F S1x1280 .f32 := broadcastInDim S1x1280 ![1] bcast_S1280_S1x1280_1 main_v9
  let main_v12 : FVec F S65536x1280 .f32 := broadcastInDim S65536x1280 ![0, 1] bcast_S65536x1_S65536x1280_0_1 main_v10
  let main_v13 : FVec F S65536x1280 .f32 := broadcastInDim S65536x1280 ![0, 1] bcast_S1x1280_S65536x1280_0_1 main_v11
  let main_v14 : FVec F S65536x1280 .f32 := mulf main_v12 main_v13
  let main_c_2 : IVec S_ 32 := constantI S_ 32 2#32
  let main_v15 : IVec S1280 32 := fn_remainder (F := F) main_v0 main_c_2
  let main_c_3 : IVec S_ 32 := constantI S_ 32 0#32
  let main_v16 : IVec S1280 32 := broadcastInDim S1280 ![] bcast_S_S1280 main_c_3
  let main_v17 : IVec S1280 1 := cmpi .eq main_v15 main_v16
  fn_part1 (F := F) main_arg1 main_v14 main_v17
-- ==== Pre_in_range.lean ====
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : FVec F S65536 .f32) : IVec S65536 1 :=
  let main_v0 : FVec F S65536 .f32 := Host.absf main_arg0
  let main_cst : FVec F S_ .f32 := constant S_ .f32 0x4F800000#32
  let main_v1 : FVec F S65536 .f32 := broadcastInDim S65536 ![] bcast_S_S65536 main_cst
  let main_v2 : IVec S65536 1 := cmpf .ole main_v0 main_v1
  main_v2
-- ==== Kernel.lean ====
abbrev S65536 : Shape := ⟨1, ![65536]⟩
abbrev S65536x1 : Shape := ⟨2, ![65536, 1]⟩
abbrev S65536x1280 : Shape := ⟨2, ![65536, 1280]⟩
abbrev S2048x1 : Shape := ⟨2, ![2048, 1]⟩
abbrev S2048x1280 : Shape := ⟨2, ![2048, 1280]⟩
abbrev S1x1280 : Shape := ⟨2, ![1, 1280]⟩
abbrev S8x1 : Shape := ⟨2, ![8, 1]⟩
abbrev S8x1280 : Shape := ⟨2, ![8, 1280]⟩

abbrev nBuf : Space → Nat
  | .hbm => 3
  | .vmem => 4
  | .smem => 0
  | _ => 0

abbrev bufTy : (tb : Table) → Fin (tcTables nBuf tb) → BufTy
  | .hbm, ⟨0, _⟩ => ⟨S65536, .f32⟩
  | .hbm, ⟨1, _⟩ => ⟨S65536x1, .f32⟩
  | .hbm, ⟨2, _⟩ => ⟨S65536x1280, .f32⟩
  | .local _ .vmem, ⟨0, _⟩ => ⟨S2048x1, .f32⟩
  | .local _ .vmem, ⟨1, _⟩ => ⟨S2048x1, .f32⟩
  | .local _ .vmem, ⟨2, _⟩ => ⟨S2048x1280, .f32⟩
  | .local _ .vmem, ⟨3, _⟩ => ⟨S2048x1280, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_pi" => some ((Real.pi⁻¹ : ℝ) : EReal)
  | "neg_log" => some ((-(Real.log 10000) : ℝ) : EReal)
  | "step" => some ((1 / 640 : ℝ) : EReal)
  | _ => none
-- ==== ReferenceIdeal.lean ====
abbrev S65536 : Shape := ⟨1, ![65536]⟩
abbrev S1280 : Shape := ⟨1, ![1280]⟩
abbrev S_ : Shape := ⟨0, ![]⟩
abbrev S65536x1 : Shape := ⟨2, ![65536, 1]⟩
abbrev S1x1280 : Shape := ⟨2, ![1, 1280]⟩
abbrev S65536x1280 : Shape := ⟨2, ![65536, 1280]⟩

abbrev nBuf : Space → Nat
  | .hbm => 82
  | .vmem => 0
  | .smem => 0
  | _ => 0

abbrev bufTy : (tb : Table) → Fin (tcTables nBuf tb) → BufTy
  | .hbm, ⟨0, _⟩ => ⟨S65536, .f32⟩
  | .hbm, ⟨1, _⟩ => ⟨S1280, .i32⟩
  | .hbm, ⟨2, _⟩ => ⟨S_, .i32⟩
  | .hbm, ⟨3, _⟩ => ⟨S_, .i32⟩
  | .hbm, ⟨4, _⟩ => ⟨S1280, .i32⟩
  | .hbm, ⟨5, _⟩ => ⟨S1280, .i32⟩
  | .hbm, ⟨6, _⟩ => ⟨S1280, .i32⟩
  | .hbm, ⟨7, _⟩ => ⟨S_, .i32⟩
  | .hbm, ⟨8, _⟩ => ⟨S1280, .i32⟩
  | .hbm, ⟨9, _⟩ => ⟨S1280, .i1⟩
  | .hbm, ⟨10, _⟩ => ⟨S1280, .i32⟩
  | .hbm, ⟨11, _⟩ => ⟨S1280, .i32⟩
  | .hbm, ⟨12, _⟩ => ⟨S_, .i32⟩
  | .hbm, ⟨13, _⟩ => ⟨S1280, .i32⟩
  | .hbm, ⟨14, _⟩ => ⟨S1280, .i1⟩
  | .hbm, ⟨15, _⟩ => ⟨S1280, .i1⟩
  | .hbm, ⟨16, _⟩ => ⟨S_, .i32⟩
  | .hbm, ⟨17, _⟩ => ⟨S1280, .i32⟩
  | .hbm, ⟨18, _⟩ => ⟨S1280, .i32⟩
  | .hbm, ⟨19, _⟩ => ⟨S1280, .i32⟩
  | .hbm, ⟨20, _⟩ => ⟨S1280, .f32⟩
  | .hbm, ⟨21, _⟩ => ⟨S_, .f32⟩
  | .hbm, ⟨22, _⟩ => ⟨S1280, .f32⟩
  | .hbm, ⟨23, _⟩ => ⟨S1280, .f32⟩
  | .hbm, ⟨24, _⟩ => ⟨S_, .f32⟩
  | .hbm, ⟨25, _⟩ => ⟨S1280, .f32⟩
  | .hbm, ⟨26, _⟩ => ⟨S1280, .f32⟩
  | .hbm, ⟨27, _⟩ => ⟨S1280, .f32⟩
  | .hbm, ⟨28, _⟩ => ⟨S_, .f32⟩
  | .hbm, ⟨29, _⟩ => ⟨S1280, .f32⟩
  | .hbm, ⟨30, _⟩ => ⟨S1280, .f32⟩
  | .hbm, ⟨31, _⟩ => ⟨S65536x1, .f32⟩
  | .hbm, ⟨32, _⟩ => ⟨S1x1280, .f32⟩
  | .hbm, ⟨33, _⟩ => ⟨S65536x1280, .f32⟩
  | .hbm, ⟨34, _⟩ => ⟨S65536x1280, .f32⟩
  | .hbm, ⟨35, _⟩ => ⟨S65536x1280, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S1280, .i32⟩
  | .hbm, ⟨43, _⟩ => ⟨S1280, .i32⟩
  | .hbm, ⟨44, _⟩ => ⟨S_, .i32⟩
  | .hbm, ⟨45, _⟩ => ⟨S1280, .i32⟩
  | .hbm, ⟨46, _⟩ => ⟨S1280, .i1⟩
  | .hbm, ⟨47, _⟩ => ⟨S_, .i32⟩
  | .hbm, ⟨48, _⟩ => ⟨S1280, .i32⟩
  | .hbm, ⟨49, _⟩ => ⟨S1280, .i1⟩
  | .hbm, ⟨50, _⟩ => ⟨S_, .i32⟩
  | .hbm, ⟨51, _⟩ => ⟨S_, .i1⟩
  | .hbm, ⟨52, _⟩ => ⟨S1280, .i1⟩
  | .hbm, ⟨53, _⟩ => ⟨S1280, .i1⟩
  | .hbm, ⟨54, _⟩ => ⟨S1280, .i1⟩
  | .hbm, ⟨55, _⟩ => ⟨S1280, .i32⟩
  | .hbm, ⟨56, _⟩ => ⟨S1280, .i32⟩
  | .hbm, ⟨57, _⟩ => ⟨S1280, .i32⟩
  | .hbm, ⟨58, _⟩ => ⟨S_, .i32⟩
  | .hbm, ⟨59, _⟩ => ⟨S1280, .i32⟩
  | .hbm, ⟨60, _⟩ => ⟨S1280, .i1⟩
  | .hbm, ⟨61, _⟩ => ⟨S1x1280, .i1⟩
  | .hbm, ⟨62, _⟩ => ⟨S65536x1280, .f32⟩
  | .hbm, ⟨63, _⟩ => ⟨S65536x1280, .f32⟩
  | .hbm, ⟨64, _⟩ => ⟨S65536x1280, .i1⟩
  | .hbm, ⟨65, _⟩ => ⟨S65536x1280, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S65536x1280, .f32⟩
  | .hbm, ⟨71, _⟩ => ⟨S65536x1280, .f32⟩
  | .hbm, ⟨72, _⟩ => ⟨S65536x1280, .f32⟩
  | .hbm, ⟨73, _⟩ => ⟨S_, .f32⟩
  | .hbm, ⟨74, _⟩ => ⟨S65536x1280, .f32⟩
  | .hbm, ⟨75, _⟩ => ⟨S65536x1280, .f32⟩
  | .hbm, ⟨76, _⟩ => ⟨S65536x1280, .f32⟩
  | .hbm, ⟨77, _⟩ => ⟨S65536x1280, .f32⟩
  | .hbm, ⟨78, _⟩ => ⟨S_, .f32⟩
  | .hbm, ⟨79, _⟩ => ⟨S65536x1280, .f32⟩
  | .hbm, ⟨80, _⟩ => ⟨S65536x1280, .f32⟩
  | .hbm, ⟨81, _⟩ => ⟨S65536x1280, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v15 : Ref sig .tc := ⟨.hbm, 57, rfl⟩
abbrev main_c_3 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_call2_v0 : Ref sig .tc := ⟨.hbm, 64, rfl⟩
abbrev main_v21 : Ref sig .tc := ⟨.hbm, 65, rfl⟩
abbrev main_cst_4 : Ref sig .tc := ⟨.hbm, 66, rfl⟩
abbrev main_v22 : Ref sig .tc := ⟨.hbm, 67, rfl⟩
abbrev main_cst_5 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_6 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_7 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩

abbrev nD : Nat := 1
abbrev τ : Topo := Topo.v7x

variable {F : FTy → Type} [FloatOps F]
-- ==== Proof.Sine.lean ====
/- The cubic the kernel takes for the sine of a half period, `C1 x + C3 x³` for `sin (π x)` on `[-1/2, 1/2]`, is within
   0.01 of it: the sine lies between its Taylor polynomials of degree 7 and 9, and each of these differs from the cubic by
   a polynomial whose coefficients over `x ^ i (1/2 - x) ^ (9 - i)` are all positive. -/
module

public import Mathlib.Analysis.SpecialFunctions.Trigonometric.DerivHyp
public import Mathlib.Analysis.Complex.RealDeriv
public import Mathlib.Analysis.Calculus.Deriv.Pow
public import Mathlib.Tactic.Linarith
public import Mathlib.Tactic.NormNum
public import Mathlib.Tactic.Positivity

@[expose] public section

noncomputable section

namespace Cert.Sine

/-- A function that is nonnegative at zero and whose derivative is nonnegative from there on stays nonnegative. -/
theorem nonneg_of_deriv (f f' : ℝ → ℝ) (hf : ∀ x, HasDerivAt f (f' x) x) (h0 : 0 ≤ f 0) (h' : ∀ x, 0 ≤ x → 0 ≤ f' x)
    (x : ℝ) (hx : 0 ≤ x) : 0 ≤ f x := by
  have hm : MonotoneOn f (Set.Ici 0) := by
    refine monotoneOn_of_deriv_nonneg (convex_Ici 0) (fun y _ => (hf y).continuousAt.continuousWithinAt)
      (fun y _ => (hf y).differentiableAt.differentiableWithinAt) (fun y hy => ?_)
    rw [(hf y).deriv]
    exact h' y (by rw [interior_Ici] at hy; exact le_of_lt hy)
  exact h0.trans (hm (by simp) (by simpa using hx) hx)

/-- The derivative of a monomial, its factor folded. -/
theorem deriv_monomial (n : ℕ) (c x : ℝ) : HasDerivAt (fun y : ℝ => y ^ n * c) (n * x ^ (n - 1) * c) x :=
  (hasDerivAt_pow n x).mul_const c

/-- The derivative of the sine, read from that of the hyperbolic sine on the imaginary axis. -/
theorem deriv_sin (x : ℝ) : HasDerivAt Real.sin (Real.cos x) x := by
  have h := ((Complex.hasDerivAt_sinh ((x : ℂ) * Complex.I)).comp (x : ℂ)
    ((hasDerivAt_id (x : ℂ)).mul_const Complex.I)).mul_const (-Complex.I)
  have hc : HasDerivAt Complex.sin (Complex.cos x) (x : ℂ) := by
    refine (h.congr_deriv ?_).congr_of_eventuallyEq (Filter.Eventually.of_forall fun z => ?_)
    · rw [Complex.cosh_mul_I, one_mul, mul_assoc, mul_neg, Complex.I_mul_I, neg_neg, mul_one]
    · show Complex.sin z = Complex.sinh (z * Complex.I) * -Complex.I
      rw [Complex.sinh_mul_I, mul_assoc, mul_neg, Complex.I_mul_I, neg_neg, mul_one]
  exact hc.real_of_complex

/-- The derivative of the cosine, read from that of the hyperbolic cosine on the imaginary axis. -/
theorem deriv_cos (x : ℝ) : HasDerivAt Real.cos (-Real.sin x) x := by
  have h := (Complex.hasDerivAt_cosh ((x : ℂ) * Complex.I)).comp (x : ℂ)
    ((hasDerivAt_id (x : ℂ)).mul_const Complex.I)
  have hc : HasDerivAt Complex.cos (-Complex.sin x) (x : ℂ) := by
    refine (h.congr_deriv ?_).congr_of_eventuallyEq (Filter.Eventually.of_forall fun z => ?_)
    · rw [Complex.sinh_mul_I, one_mul, mul_assoc, Complex.I_mul_I, mul_neg, mul_one]
    · exact (Complex.cosh_mul_I z).symm
  have hr := hc.real_of_complex
  rwa [← Complex.ofReal_sin, ← Complex.ofReal_neg, Complex.ofReal_re] at hr

/-- `sin u ≤ u` from zero on. -/
theorem sin_upper1 (x : ℝ) (hx : 0 ≤ x) : 0 ≤ x - Real.sin x :=
  nonneg_of_deriv (fun x => x - Real.sin x) (fun x => 1 - Real.cos x) (fun x => (hasDerivAt_id x).sub (deriv_sin x))
    (by simp) (fun x _ => sub_nonneg.2 (Real.cos_le_one x)) x hx

/-- `cos u ≥ 1 - u²/2` from zero on. -/
theorem cos_lower2 (x : ℝ) (hx : 0 ≤ x) : 0 ≤ Real.cos x - (1 - x ^ 2 * (1 / 2)) := by
  refine nonneg_of_deriv (fun x => Real.cos x - (1 - x ^ 2 * (1 / 2)))
    (fun x => -Real.sin x - (0 - (2 : ℕ) * x ^ (2 - 1) * (1 / 2))) (fun x => ?_) (by simp) (fun x h0 => ?_) x hx
  · exact (deriv_cos x).sub ((hasDerivAt_const x 1).sub (deriv_monomial 2 _ x))
  · have h := sin_upper1 x h0
    norm_num
    linarith

/-- `sin u ≥ u - u³/6` from zero on. -/
theorem sin_lower3 (x : ℝ) (hx : 0 ≤ x) : 0 ≤ Real.sin x - (x - x ^ 3 * (1 / 6)) := by
  refine nonneg_of_deriv (fun x => Real.sin x - (x - x ^ 3 * (1 / 6)))
    (fun x => Real.cos x - (1 - (3 : ℕ) * x ^ (3 - 1) * (1 / 6))) (fun x => ?_) (by simp) (fun x h0 => ?_) x hx
  · exact (deriv_sin x).sub ((hasDerivAt_id x).sub (deriv_monomial 3 _ x))
  · have h := cos_lower2 x h0
    norm_num
    linarith

/-- `cos u ≤ 1 - u²/2 + u⁴/24` from zero on. -/
theorem cos_upper4 (x : ℝ) (hx : 0 ≤ x) : 0 ≤ 1 - x ^ 2 * (1 / 2) + x ^ 4 * (1 / 24) - Real.cos x := by
  refine nonneg_of_deriv (fun x => 1 - x ^ 2 * (1 / 2) + x ^ 4 * (1 / 24) - Real.cos x)
    (fun x => 0 - (2 : ℕ) * x ^ (2 - 1) * (1 / 2) + (4 : ℕ) * x ^ (4 - 1) * (1 / 24) - -Real.sin x)
    (fun x => ?_) (by simp) (fun x h0 => ?_) x hx
  · exact (((hasDerivAt_const x 1).sub (deriv_monomial 2 _ x)).add (deriv_monomial 4 _ x)).sub (deriv_cos x)
  · have h := sin_lower3 x h0
    norm_num
    linarith

/-- `sin u ≤ u - u³/6 + u⁵/120` from zero on. -/
theorem sin_upper5 (x : ℝ) (hx : 0 ≤ x) : 0 ≤ x - x ^ 3 * (1 / 6) + x ^ 5 * (1 / 120) - Real.sin x := by
  refine nonneg_of_deriv (fun x => x - x ^ 3 * (1 / 6) + x ^ 5 * (1 / 120) - Real.sin x)
    (fun x => 1 - (3 : ℕ) * x ^ (3 - 1) * (1 / 6) + (5 : ℕ) * x ^ (5 - 1) * (1 / 120) - Real.cos x)
    (fun x => ?_) (by simp) (fun x h0 => ?_) x hx
  · exact (((hasDerivAt_id x).sub (deriv_monomial 3 _ x)).add (deriv_monomial 5 _ x)).sub (deriv_sin x)
  · have h := cos_upper4 x h0
    norm_num
    linarith

/-- `cos u ≥ 1 - u²/2 + u⁴/24 - u⁶/720` from zero on. -/
theorem cos_lower6 (x : ℝ) (hx : 0 ≤ x) :
    0 ≤ Real.cos x - (1 - x ^ 2 * (1 / 2) + x ^ 4 * (1 / 24) - x ^ 6 * (1 / 720)) := by
  refine nonneg_of_deriv (fun x => Real.cos x - (1 - x ^ 2 * (1 / 2) + x ^ 4 * (1 / 24) - x ^ 6 * (1 / 720)))
    (fun x => -Real.sin x - (0 - (2 : ℕ) * x ^ (2 - 1) * (1 / 2) + (4 : ℕ) * x ^ (4 - 1) * (1 / 24)
      - (6 : ℕ) * x ^ (6 - 1) * (1 / 720)))
    (fun x => ?_) (by simp) (fun x h0 => ?_) x hx
  · exact (deriv_cos x).sub
      ((((hasDerivAt_const x 1).sub (deriv_monomial 2 _ x)).add (deriv_monomial 4 _ x)).sub (deriv_monomial 6 _ x))
  · have h := sin_upper5 x h0
    norm_num
    linarith

/-- `sin u ≥ u - u³/6 + u⁵/120 - u⁷/5040` from zero on. -/
theorem sin_lower7 (x : ℝ) (hx : 0 ≤ x) :
    0 ≤ Real.sin x - (x - x ^ 3 * (1 / 6) + x ^ 5 * (1 / 120) - x ^ 7 * (1 / 5040)) := by
  refine nonneg_of_deriv (fun x => Real.sin x - (x - x ^ 3 * (1 / 6) + x ^ 5 * (1 / 120) - x ^ 7 * (1 / 5040)))
    (fun x => Real.cos x - (1 - (3 : ℕ) * x ^ (3 - 1) * (1 / 6) + (5 : ℕ) * x ^ (5 - 1) * (1 / 120)
      - (7 : ℕ) * x ^ (7 - 1) * (1 / 5040)))
    (fun x => ?_) (by simp) (fun x h0 => ?_) x hx
  · exact (deriv_sin x).sub
      ((((hasDerivAt_id x).sub (deriv_monomial 3 _ x)).add (deriv_monomial 5 _ x)).sub (deriv_monomial 7 _ x))
  · have h := cos_lower6 x h0
    norm_num
    linarith

/-- `cos u ≤ 1 - u²/2 + u⁴/24 - u⁶/720 + u⁸/40320` from zero on. -/
theorem cos_upper8 (x : ℝ) (hx : 0 ≤ x) :
    0 ≤ 1 - x ^ 2 * (1 / 2) + x ^ 4 * (1 / 24) - x ^ 6 * (1 / 720) + x ^ 8 * (1 / 40320) - Real.cos x := by
  refine nonneg_of_deriv (fun x => 1 - x ^ 2 * (1 / 2) + x ^ 4 * (1 / 24) - x ^ 6 * (1 / 720) + x ^ 8 * (1 / 40320) - Real.cos x)
    (fun x => 0 - (2 : ℕ) * x ^ (2 - 1) * (1 / 2) + (4 : ℕ) * x ^ (4 - 1) * (1 / 24)
      - (6 : ℕ) * x ^ (6 - 1) * (1 / 720) + (8 : ℕ) * x ^ (8 - 1) * (1 / 40320) - -Real.sin x)
    (fun x => ?_) (by simp) (fun x h0 => ?_) x hx
  · exact (((((hasDerivAt_const x 1).sub (deriv_monomial 2 _ x)).add (deriv_monomial 4 _ x)).sub
      (deriv_monomial 6 _ x)).add (deriv_monomial 8 _ x)).sub (deriv_cos x)
  · have h := sin_lower7 x h0
    norm_num
    linarith

/-- `sin u ≤ u - u³/6 + u⁵/120 - u⁷/5040 + u⁹/362880` from zero on. -/
theorem sin_upper9 (x : ℝ) (hx : 0 ≤ x) :
    0 ≤ x - x ^ 3 * (1 / 6) + x ^ 5 * (1 / 120) - x ^ 7 * (1 / 5040) + x ^ 9 * (1 / 362880) - Real.sin x := by
  refine nonneg_of_deriv (fun x => x - x ^ 3 * (1 / 6) + x ^ 5 * (1 / 120) - x ^ 7 * (1 / 5040) + x ^ 9 * (1 / 362880) - Real.sin x)
    (fun x => 1 - (3 : ℕ) * x ^ (3 - 1) * (1 / 6) + (5 : ℕ) * x ^ (5 - 1) * (1 / 120)
      - (7 : ℕ) * x ^ (7 - 1) * (1 / 5040) + (9 : ℕ) * x ^ (9 - 1) * (1 / 362880) - Real.cos x)
    (fun x => ?_) (by simp) (fun x h0 => ?_) x hx
  · exact (((((hasDerivAt_id x).sub (deriv_monomial 3 _ x)).add (deriv_monomial 5 _ x)).sub
      (deriv_monomial 7 _ x)).add (deriv_monomial 9 _ x)).sub (deriv_sin x)
  · have h := cos_upper8 x h0
    norm_num
    linarith

/-- `π` to six digits: `sin (π/6)` is one half. -/
theorem pi_bounds : (3.141592 : ℝ) < Real.pi ∧ Real.pi < (3.141593 : ℝ) := by
  have h2 := Real.two_le_pi
  constructor
  · by_contra h
    have hs := Real.sin_le_sin_of_le_of_le_pi_div_two (x := Real.pi / 6) (y := 3.141592 / 6) (by linarith)
      (by norm_num; linarith) (by linarith [not_lt.1 h])
    have hu := sin_upper9 (3.141592 / 6) (by norm_num)
    rw [Real.sin_pi_div_six] at hs
    norm_num at hs hu
    linarith
  · by_contra h
    have hs := Real.sin_le_sin_of_le_of_le_pi_div_two (x := 3.141593 / 6) (y := Real.pi / 6) (by norm_num; linarith)
      (by linarith) (by linarith [not_lt.1 h])
    have hl := sin_lower7 (3.141593 / 6) (by norm_num)
    rw [Real.sin_pi_div_six] at hs
    norm_num at hs hl
    linarith

/-- A power of `π` lies between the powers of its six-digit bounds. -/
theorem pi_pow_bounds (n : ℕ) : (3.141592 : ℝ) ^ n ≤ Real.pi ^ n ∧ Real.pi ^ n ≤ (3.141593 : ℝ) ^ n :=
  ⟨pow_le_pow_left₀ (by norm_num) pi_bounds.1.le n, pow_le_pow_left₀ Real.pi_pos.le pi_bounds.2.le n⟩

/-- `sin (π x)` from below, in decimals. -/
theorem sin_pi_lower (x : ℝ) (hx : 0 ≤ x) :
    3.14159 * x - 5.16773 * x ^ 3 + 2.55015 * x ^ 5 - 0.5993 * x ^ 7 ≤ Real.sin (Real.pi * x) := by
  have h := sin_lower7 (Real.pi * x) (mul_nonneg Real.pi_pos.le hx)
  simp only [mul_pow] at h
  have e1 : 0 ≤ (Real.pi - 3.14159) * x := mul_nonneg (by have := pi_bounds.1; linarith) hx
  have e3 : 0 ≤ (5.16773 - Real.pi ^ 3 * (1 / 6)) * x ^ 3 :=
    mul_nonneg (by have := (pi_pow_bounds 3).2; norm_num at this ⊢; linarith) (pow_nonneg hx 3)
  have e5 : 0 ≤ (Real.pi ^ 5 * (1 / 120) - 2.55015) * x ^ 5 :=
    mul_nonneg (by have := (pi_pow_bounds 5).1; norm_num at this ⊢; linarith) (pow_nonneg hx 5)
  have e7 : 0 ≤ (0.5993 - Real.pi ^ 7 * (1 / 5040)) * x ^ 7 :=
    mul_nonneg (by have := (pi_pow_bounds 7).2; norm_num at this ⊢; linarith) (pow_nonneg hx 7)
  linarith

/-- `sin (π x)` from above, in decimals. -/
theorem sin_pi_upper (x : ℝ) (hx : 0 ≤ x) :
    Real.sin (Real.pi * x) ≤ 3.1416 * x - 5.1677 * x ^ 3 + 2.5502 * x ^ 5 - 0.5992 * x ^ 7 + 0.0822 * x ^ 9 := by
  have h := sin_upper9 (Real.pi * x) (mul_nonneg Real.pi_pos.le hx)
  simp only [mul_pow] at h
  have e1 : 0 ≤ (3.1416 - Real.pi) * x := mul_nonneg (by have := pi_bounds.2; linarith) hx
  have e3 : 0 ≤ (Real.pi ^ 3 * (1 / 6) - 5.1677) * x ^ 3 :=
    mul_nonneg (by have := (pi_pow_bounds 3).1; norm_num at this ⊢; linarith) (pow_nonneg hx 3)
  have e5 : 0 ≤ (2.5502 - Real.pi ^ 5 * (1 / 120)) * x ^ 5 :=
    mul_nonneg (by have := (pi_pow_bounds 5).2; norm_num at this ⊢; linarith) (pow_nonneg hx 5)
  have e7 : 0 ≤ (Real.pi ^ 7 * (1 / 5040) - 0.5992) * x ^ 7 :=
    mul_nonneg (by have := (pi_pow_bounds 7).1; norm_num at this ⊢; linarith) (pow_nonneg hx 7)
  have e9 : 0 ≤ (0.0822 - Real.pi ^ 9 * (1 / 362880)) * x ^ 9 :=
    mul_nonneg (by have := (pi_pow_bounds 9).2; norm_num at this ⊢; linarith) (pow_nonneg hx 9)
  linarith

/-- The kernel's coefficients and the tolerance, the exact values of their words. -/
def C1 : ℝ := 6514549 / 2097152
/-- The second coefficient. -/
def C3 : ℝ := -(589535 / 131072)
/-- The tolerance, the float32 word of 0.01. -/
def T : ℝ := 5368709 / 536870912

/-- The cubic. -/
def cubic (x : ℝ) : ℝ := C1 * x + C3 * (x * x * x)

/-- The cubic is odd. -/
theorem cubic_neg (x : ℝ) : cubic (-x) = -cubic x := by unfold cubic; ring

/-- On the upper half of the range the cubic is within the tolerance of the sine. -/
theorem cubic_close_nonneg (x : ℝ) (h0 : 0 ≤ x) (h1 : x ≤ 1 / 2) : |cubic x - Real.sin (Real.pi * x)| ≤ T := by
  have hw : 0 ≤ 1 / 2 - x := by linarith
  have hl := sin_pi_lower x h0
  have hu := sin_pi_upper x h0
  have pl : 0 ≤ T + (3.14159 * x - 5.16773 * x ^ 3 + 2.55015 * x ^ 5 - 0.5993 * x ^ 7) - cubic x := by
    have e : T + (3.14159 * x - 5.16773 * x ^ 3 + 2.55015 * x ^ 5 - 0.5993 * x ^ 7) - cubic x =
        (5368709/1048576) * (x ^ 0 * (1 / 2 - x) ^ 9) + (180532041297/3276800000) * (x ^ 1 * (1 / 2 - x) ^ 8) +
          (210069141969/819200000) * (x ^ 2 * (1 / 2 - x) ^ 7) + (104791470041/163840000) * (x ^ 3 * (1 / 2 - x) ^ 6) +
          (1462516811703/1638400000) * (x ^ 4 * (1 / 2 - x) ^ 5) + (220779456267/327680000) * (x ^ 5 * (1 / 2 - x) ^ 4) +
          (197064589373/819200000) * (x ^ 6 * (1 / 2 - x) ^ 3) + (29484576209/819200000) * (x ^ 7 * (1 / 2 - x) ^ 2) +
          (12682698077/655360000) * (x ^ 8 * (1 / 2 - x) ^ 1) + (31664945161/3276800000) * (x ^ 9 * (1 / 2 - x) ^ 0) := by
      unfold T cubic C1 C3; ring
    rw [e]; positivity
  have pu : 0 ≤ T + cubic x - (3.1416 * x - 5.1677 * x ^ 3 + 2.5502 * x ^ 5 - 0.5992 * x ^ 7 + 0.0822 * x ^ 9) := by
    have e : T + cubic x - (3.1416 * x - 5.1677 * x ^ 3 + 2.5502 * x ^ 5 - 0.5992 * x ^ 7 + 0.0822 * x ^ 9) =
        (5368709/1048576) * (x ^ 0 * (1 / 2 - x) ^ 9) + (24289890269/655360000) * (x ^ 1 * (1 / 2 - x) ^ 8) +
          (18380792413/163840000) * (x ^ 2 * (1 / 2 - x) ^ 7) + (7225016517/32768000) * (x ^ 3 * (1 / 2 - x) ^ 6) +
          (130231720331/327680000) * (x ^ 4 * (1 / 2 - x) ^ 5) + (201937957899/327680000) * (x ^ 5 * (1 / 2 - x) ^ 4) +
          (101485389529/163840000) * (x ^ 6 * (1 / 2 - x) ^ 3) + (54483746397/163840000) * (x ^ 7 * (1 / 2 - x) ^ 2) +
          (47691685213/655360000) * (x ^ 8 * (1 / 2 - x) ^ 1) + (320304181/655360000) * (x ^ 9 * (1 / 2 - x) ^ 0) := by
      unfold T cubic C1 C3; ring
    rw [e]; positivity
  rw [abs_le]
  constructor <;> linarith

/-- THE BOUND: on the whole range the cubic is within the tolerance of the sine. -/
theorem cubic_close (x : ℝ) (h : |x| ≤ 1 / 2) : |cubic x - Real.sin (Real.pi * x)| ≤ T := by
  rcases le_total 0 x with h0 | h0
  · exact cubic_close_nonneg x h0 (by rwa [abs_of_nonneg h0] at h)
  · have hn := cubic_close_nonneg (-x) (by linarith) (by rwa [abs_of_nonpos h0] at h)
    rw [cubic_neg, mul_neg, Real.sin_neg, ← neg_sub', abs_neg] at hn
    exact hn

end Cert.Sine

end
-- ==== Proof.Reduce.lean ====
/- One element of the kernel's row step, over the reals. At the half period `z` the step takes the nearest integer `n`
   (ties to even), the cubic at `z - n`, and the opposite of it when `n` is odd. Since `sin (π z) = (-1)^n sin (π (z - n))`
   and `z - n` lies in `[-1/2, 1/2]`, that is the cubic at `arcsin (sin (π z)) / π`, and within 0.01 of `sin (π z)`. -/
module

public import proofs.«01_k».proof.Proof.Sine
public import Idealize.ShloMosaic.PureOps.Ideal

@[expose] public section

noncomputable section

namespace Cert.Reduce

open Idealize.ShloMosaic Cert.Sine

/-! ## The nearest integer -/

/-- A real is within one half of its nearest integer. -/
theorem abs_sub_round (z : ℝ) : |z - (Ideal.roundHalfEven z : ℝ)| ≤ 1 / 2 := by
  have h0 := Int.floor_le z
  have h1 := Int.lt_floor_add_one z
  unfold Ideal.roundHalfEven
  rw [abs_le]
  dsimp only
  split_ifs <;> push_cast <;> constructor <;> linarith

/-- The nearest integer of a real in range is in range. -/
theorem round_bounds (z : ℝ) (hz : |z| ≤ 2000000000) :
    -2000000001 ≤ Ideal.roundHalfEven z ∧ Ideal.roundHalfEven z ≤ 2000000001 := by
  have h := abs_le.1 (abs_sub_round z)
  have hz := abs_le.1 hz
  constructor
  · have : ((-2000000001 : ℤ) : ℝ) ≤ (Ideal.roundHalfEven z : ℝ) := by push_cast; linarith [h.2, hz.1]
    exact_mod_cast this
  · have : (Ideal.roundHalfEven z : ℝ) ≤ ((2000000001 : ℤ) : ℝ) := by push_cast; linarith [h.1, hz.2]
    exact_mod_cast this

/-! ## The sine at the nearest integer -/

/-- The sine of `π z` from that of `π` times the distance to any integer. -/
theorem sin_shift (z : ℝ) (n : ℤ) : Real.sin (Real.pi * z) = (-1) ^ n * Real.sin (Real.pi * (z - n)) := by
  rw [← Real.sin_add_int_mul_pi]
  congr 1
  ring

/-- The signed distance: `z - n`, negated when `n` is odd. -/
def signed (z : ℝ) : ℝ :=
  if Ideal.roundHalfEven z % 2 = 0 then z - Ideal.roundHalfEven z else -(z - Ideal.roundHalfEven z)

/-- It lies within one half of zero. -/
theorem abs_signed (z : ℝ) : |signed z| ≤ 1 / 2 := by
  unfold signed
  split_ifs
  · exact abs_sub_round z
  · rw [abs_neg]; exact abs_sub_round z

/-- Its sine is the sine of `π z`. -/
theorem sin_signed (z : ℝ) : Real.sin (Real.pi * signed z) = Real.sin (Real.pi * z) := by
  rw [sin_shift z (Ideal.roundHalfEven z)]
  unfold signed
  split_ifs with h
  · rw [Even.neg_one_zpow (Int.even_iff.2 h), one_mul]
  · rw [Odd.neg_one_zpow (Int.odd_iff.2 (by omega)), mul_neg, Real.sin_neg, neg_one_mul]

/-- It is the arcsine of the sine of `π z`, in half periods. -/
theorem arcsin_sin (z : ℝ) : Real.arcsin (Real.sin (Real.pi * z)) / Real.pi = signed z := by
  have h := abs_le.1 (abs_signed z)
  have hp := Real.pi_pos
  rw [← sin_signed, Real.arcsin_sin (by nlinarith) (by nlinarith)]
  field_simp

/-- The cubic at the signed distance is within the tolerance of the sine. -/
theorem signed_close (z : ℝ) : |cubic (signed z) - Real.sin (Real.pi * z)| ≤ T := by
  rw [← sin_signed]
  exact cubic_close _ (abs_signed z)

/-! ## Words -/

/-- The words of the constants are the rationals they spell. -/
theorem ofBits_C1 : Ideal.ofBits .f32 0x4046CEEA#32 = ((C1 : ℝ) : EReal) := by
  simp [Ideal.ofBits, Ideal.ieee, C1, -EReal.coe_mul]; norm_num
/-- The word of the cubic's second coefficient. -/
theorem ofBits_C3 : Ideal.ofBits .f32 0xC08FEDF0#32 = ((C3 : ℝ) : EReal) := by
  simp [Ideal.ofBits, Ideal.ieee, C3, -EReal.coe_mul]; norm_num
/-- The word of the tolerance. -/
theorem ofBits_T : Ideal.ofBits .f32 0x3C23D70A#32 = ((T : ℝ) : EReal) := by
  simp [Ideal.ofBits, Ideal.ieee, T, -EReal.coe_mul]; norm_num
/-- The word of −1. -/
theorem ofBits_neg_one : Ideal.ofBits .f32 0xBF800000#32 = ((-1 : ℝ) : EReal) := by
  simp [Ideal.ofBits, Ideal.ieee, -EReal.coe_mul]; norm_num
/-- The word of 1/2. -/
theorem ofBits_half : Ideal.ofBits .f32 0x3F000000#32 = ((1 / 2 : ℝ) : EReal) := by
  simp [Ideal.ofBits, Ideal.ieee, -EReal.coe_mul]; norm_num
/-- The word of 1. -/
theorem ofBits_one : Ideal.ofBits .f32 0x3F800000#32 = ((1 : ℝ) : EReal) := by
  simp [Ideal.ofBits, Ideal.ieee, -EReal.coe_mul]; norm_num
/-- The word of 2. -/
theorem ofBits_two : Ideal.ofBits .f32 0x40000000#32 = ((2 : ℝ) : EReal) := by
  simp [Ideal.ofBits, Ideal.ieee, -EReal.coe_mul]; norm_num
/-- The word of 1280. -/
theorem ofBits_1280 : Ideal.ofBits .f32 0x44A00000#32 = ((1280 : ℝ) : EReal) := by
  simp [Ideal.ofBits, Ideal.ieee, -EReal.coe_mul]; norm_num
/-- The word of 10000. -/
theorem ofBits_10000 : Ideal.ofBits .f32 0x461C4000#32 = ((10000 : ℝ) : EReal) := by
  simp [Ideal.ofBits, Ideal.ieee, -EReal.coe_mul]; norm_num
/-- The word of 2^32, the precondition's bound. -/
theorem ofBits_range : Ideal.ofBits .f32 0x4F800000#32 = ((4294967296 : ℝ) : EReal) := by
  simp [Ideal.ofBits, Ideal.ieee, -EReal.coe_mul]; norm_num

/-- An integer's word shifted up by 31 is zero exactly when the integer is even. -/
theorem shl31_eq_zero (n : ℤ) : BitVec.ofInt 32 n <<< (31#32 : BitVec 32) = 0#32 ↔ n % 2 = 0 := by
  rw [← BitVec.toNat_inj, BitVec.shiftLeft_eq', BitVec.toNat_shiftLeft, BitVec.toNat_ofInt, Nat.shiftLeft_eq]
  simp only [BitVec.toNat_ofNat]
  norm_num
  omega

/-- The conversion of an integer in range to a word is the integer's word. -/
theorem fptosi_int (n : ℤ) (h0 : -2000000001 ≤ n) (h1 : n ≤ 2000000001) :
    Ideal.fptosi 32 ((n : ℝ) : EReal) = BitVec.ofInt 32 n := by
  rw [Ideal.fptosi, Ideal.toIntClamped_coe, Int.floor_intCast, Int.ceil_intCast, ite_self]
  congr 1
  norm_num
  omega

/-! ## The element -/

/-- The cubic of the kernel's row step, at the distance `r`. -/
def poly (r : Ideal .f32) : Ideal .f32 :=
  FloatOps.mulf r (FloatOps.addf (FloatOps.ofBits .f32 0x4046CEEA#32)
    (FloatOps.mulf (FloatOps.mulf r r) (FloatOps.ofBits .f32 0xC08FEDF0#32)))

/-- One element of the kernel's row step, from the half period `z`. -/
def cell (z : Ideal .f32) : Ideal .f32 :=
  Scalar.select (IntOp.cmpi .ne (IntOp.shli .vector (FloatOps.fptosi 32 (FloatOps.roundeven z)) 31#32) 0#32)
    (FloatOps.mulf (poly (FloatOps.subf z (FloatOps.roundeven z))) (FloatOps.ofBits .f32 0xBF800000#32))
    (poly (FloatOps.subf z (FloatOps.roundeven z)))

/-- The row step's cubic at a real. -/
theorem poly_coe (r : ℝ) : poly (r : EReal) = ((cubic r : ℝ) : EReal) := by
  unfold poly
  simp only [Ideal.mulf_def, Ideal.addf_def, Ideal.ofBits_def, ofBits_C1, ofBits_C3, ← EReal.coe_mul, ← EReal.coe_add]
  congr 1
  unfold cubic
  ring

/-- THE ELEMENT at a real half period in range: the cubic at the signed distance. -/
theorem cell_coe (z : ℝ) (hz : |z| ≤ 2000000000) : cell (z : EReal) = ((cubic (signed z) : ℝ) : EReal) := by
  have hb := round_bounds z hz
  have hr : FloatOps.roundeven (F := Ideal) (φ := .f32) (z : EReal) = (((Ideal.roundHalfEven z : ℤ) : ℝ) : EReal) := rfl
  have hf : FloatOps.fptosi (F := Ideal) (φ := .f32) 32 (((Ideal.roundHalfEven z : ℤ) : ℝ) : EReal)
      = BitVec.ofInt 32 (Ideal.roundHalfEven z) := fptosi_int _ hb.1 hb.2
  have hs : IntOp.shli .vector (BitVec.ofInt 32 (Ideal.roundHalfEven z)) 31#32
      = BitVec.ofInt 32 (Ideal.roundHalfEven z) <<< (31#32 : BitVec 32) := by simp [IntOp.shli]
  have hd : FloatOps.subf (F := Ideal) (φ := .f32) (z : EReal) (((Ideal.roundHalfEven z : ℤ) : ℝ) : EReal)
      = ((z - Ideal.roundHalfEven z : ℝ) : EReal) := (EReal.coe_sub _ _).symm
  unfold cell
  rw [hr, hf, hs, hd, poly_coe]
  unfold signed
  by_cases h : Ideal.roundHalfEven z % 2 = 0
  · rw [if_pos h, (shl31_eq_zero _).2 h]
    rfl
  · rw [if_neg h, cubic_neg]
    have hc : IntOp.cmpi .ne (BitVec.ofInt 32 (Ideal.roundHalfEven z) <<< (31#32 : BitVec 32)) 0#32 = 1#1 := by
      have hne := mt (shl31_eq_zero _).1 h
      show BitVec.ofBool (BitVec.ofInt 32 (Ideal.roundHalfEven z) <<< (31#32 : BitVec 32) != 0#32) = 1#1
      rw [bne_iff_ne.2 hne]
      rfl
    rw [hc]
    rw [Scalar.select, if_pos (show (1#1 : BitVec 1) = 1 from rfl), Ideal.mulf_def, Ideal.ofBits_def, ofBits_neg_one]
    rw [← EReal.coe_mul, mul_neg_one]

end Cert.Reduce

end
-- ==== Proof.Lanes.lean ====
/- The angle of each element over the reals, shared by the kernel, the reference and the postcondition: at lane `q`, with
   `k = q / 2` the lane's pair, the rate `10000^(-2k/1280)`, and the half period at time `t`: `t * rate / π`, plus one half
   at the odd lanes. The kernel takes the rate as `exp (k/640 * (-log 10000))`, the reference as a power; the kernel takes the
   pair and the parity by kernel integer operations, the reference by host integer operations. -/
module

public import proofs.«01_k».proof.Proof.Reduce
public import Mathlib.Analysis.SpecialFunctions.Pow.Real

@[expose] public section

noncomputable section

namespace Cert.Lanes

open Idealize.ShloMosaic

/-! ## The reals -/

/-- The rate at lane `q`. -/
def rate (q : ℕ) : ℝ := Real.exp ((1 / 640) * ((q / 2 : ℕ) : ℝ) * -(Real.log 10000))

/-- The half period at time `t` and lane `q`. -/
def half (t : ℝ) (q : ℕ) : ℝ := t * (rate q * Real.pi⁻¹) + if q % 2 = 0 then 0 else 1 / 2

/-- The sine or cosine asked for at time `t` and lane `q`. -/
def wave (t : ℝ) (q : ℕ) : ℝ := if q % 2 = 0 then Real.sin (t * rate q) else Real.cos (t * rate q)

/-- The rate is the power the reference takes. -/
theorem rate_eq_rpow (q : ℕ) : (10000 : ℝ) ^ (-(2 * ((q / 2 : ℕ) : ℝ) * (1 / 1280))) = rate q := by
  unfold rate
  rw [Real.rpow_def_of_pos (by norm_num)]
  congr 1
  ring

/-- The rate lies between 0 and 1. -/
theorem rate_bounds (q : ℕ) : 0 < rate q ∧ rate q ≤ 1 := by
  refine ⟨Real.exp_pos _, ?_⟩
  unfold rate
  rw [Real.exp_le_one_iff]
  have h1 : 0 ≤ Real.log 10000 := Real.log_nonneg (by norm_num)
  have h2 : (0 : ℝ) ≤ (1 / 640) * ((q / 2 : ℕ) : ℝ) := by positivity
  nlinarith

/-- The sine of `π` times the half period is the sine or cosine asked for. -/
theorem sin_half (t : ℝ) (q : ℕ) : Real.sin (Real.pi * half t q) = wave t q := by
  have hp := Real.pi_pos
  unfold half wave
  split_ifs
  · congr 1
    field_simp
    ring
  · rw [← Real.sin_add_pi_div_two]
    congr 1
    field_simp

/-- At the times the precondition allows, the half period stays in the range the row step's integer conversion takes. -/
theorem half_bound (t : ℝ) (q : ℕ) (ht : |t| ≤ 4294967296) : |half t q| ≤ 2000000000 := by
  have hp := Sine.pi_bounds.1
  have hr := rate_bounds q
  have hi : Real.pi⁻¹ ≤ 1 / 3 := by
    rw [inv_eq_one_div]
    exact one_div_le_one_div_of_le (by norm_num) (by linarith)
  have hi0 : 0 < Real.pi⁻¹ := inv_pos.2 Real.pi_pos
  have hm : rate q * Real.pi⁻¹ ≤ 1 / 3 := by nlinarith
  have hm0 : 0 ≤ rate q * Real.pi⁻¹ := mul_nonneg hr.1.le hi0.le
  have hx : |t * (rate q * Real.pi⁻¹)| ≤ 4294967296 * (1 / 3) := by
    rw [abs_mul, abs_of_nonneg hm0]
    exact mul_le_mul ht hm hm0 (by norm_num)
  have hph : |(if q % 2 = 0 then (0 : ℝ) else 1 / 2)| ≤ 1 / 2 := by split_ifs <;> norm_num
  unfold half
  refine (abs_add_le _ _).trans ?_
  linarith

/-- The sine or cosine lies between -1 and 1. -/
theorem wave_bounds (t : ℝ) (q : ℕ) : -1 ≤ wave t q ∧ wave t q ≤ 1 := by
  rw [← sin_half]
  exact ⟨Real.neg_one_le_sin _, Real.sin_le_one _⟩

/-! ## The words -/

/-- The kernel's floor division of the lane's number by 2. -/
def kdiv (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 2#32 0#32)) (Scalar.extui (Scalar.cmpi .slt 2#32 0#32))))
      (IntOp.cmpi .ne (IntOp.remsi .vector x 2#32) 0#32))
    (IntOp.subi (IntOp.divsi .vector x 2#32) 1#32)
    (IntOp.divsi .vector x 2#32)

/-- The host's sign of a word. -/
def sgn (x : BitVec 32) : BitVec 32 := if x = 0 then 0 else if x.msb then -1 else 1

/-- The host's floor division of the lane's number by 2. -/
def hdiv (x : BitVec 32) : BitVec 32 :=
  Scalar.select
    (IntOp.andi (IntOp.cmpi .ne (sgn x) (sgn 2#32)) (IntOp.cmpi .ne (IntOp.remsi .host x 2#32) 0#32))
    (IntOp.subi (IntOp.divsi .host x 2#32) 1#32)
    (IntOp.divsi .host x 2#32)

/-- The divisor the host's remainder takes: 2, since it is not 0. -/
def two : BitVec 32 := Scalar.select (IntOp.cmpi .eq 2#32 0#32) 1#32 2#32

/-- Whether the host's remainder of the lane's number by 2 is zero. -/
def heven (x : BitVec 32) : BitVec 1 :=
  IntOp.cmpi .eq
    (Scalar.select
      (IntOp.andi (IntOp.cmpi .ne (IntOp.cmpi .slt (IntOp.remsi .host x two) 0#32) (IntOp.cmpi .slt two 0#32))
        (IntOp.cmpi .ne (IntOp.remsi .host x two) 0#32))
      (IntOp.addi (IntOp.remsi .host x two) two)
      (IntOp.remsi .host x two))
    0#32

/-- At every lane, both floor divisions give the pair's number, and both parities the lane's parity. -/
theorem words (q : Fin 1280) :
    kdiv (BitVec.ofNat 32 q.val) = BitVec.ofNat 32 (q.val / 2)
      ∧ hdiv (BitVec.ofNat 32 q.val) = BitVec.ofNat 32 (q.val / 2)
      ∧ heven (BitVec.ofNat 32 q.val) = (if q.val % 2 = 0 then 1#1 else 0#1)
      ∧ IntOp.andi (BitVec.ofNat 32 q.val) 1#32 = (if q.val % 2 = 0 then 0#32 else 1#32) := by
  revert q
  decide +kernel

/-- The float of a lane's pair number is the pair number. -/
theorem sitofp_pair (q : Fin 1280) :
    FloatOps.sitofp (F := Ideal) .f32 (BitVec.ofNat 32 (q.val / 2)) = (((q.val / 2 : ℕ) : ℝ) : EReal) := by
  have h : (BitVec.ofNat 32 (q.val / 2)).toInt = ((q.val / 2 : ℕ) : ℤ) := by
    have := q.isLt
    rw [BitVec.toInt_eq_toNat_of_lt (by rw [BitVec.toNat_ofNat]; omega), BitVec.toNat_ofNat]
    omega
  show (((BitVec.ofNat 32 (q.val / 2)).toInt : ℝ) : EReal) = _
  rw [h, Int.cast_natCast]

end Cert.Lanes
-- ==== Proof.Block.lean ====
/- What the kernel's body leaves in its output block, element by element. The body stores 256 row steps of 8 rows; every
   one of them is the same function of its 8 entries of the time block and of the two lane vectors, so the block is one
   function of the time block: at row `r` and lane `q`, `cell` of `time r * rate q + phase q`. -/
module

public import proofs.«01_k».proof.Proof.Reduce
public import proofs.«01_k».proof.Proof.Gen.KernelIdeal.Value
public import Idealize.ShloMosaic.Lib.Pipeline.ReadBack
public import Idealize.ShloMosaic.Lib.ValueIdxCore
public import Idealize.ShloMosaic.Lib.Layout

@[expose] public section

noncomputable section

namespace Cert.Block

open Idealize.ShloMosaic.ValueIdx Cert.KernelIdeal Cert.KernelIdeal.Gen Idealize.ShloMosaic Cert.Reduce

/-- One element of the block, from the time block and the lane vectors. -/
def E (x0 : Vec Ideal S2048x1 .f32) (y : S2048x1280.Idx) : Ideal .f32 :=
  cell (FloatOps.addf (FloatOps.mulf (x0 (ix2 (y 0) 0)) (k0_pay2 (F := Ideal) (ix2 0 (y 1))))
    (k0_pay3 (F := Ideal) (ix2 0 (y 1))))

/-- One row step of 8 rows, at row `x 0` and lane `x 1`: `cell` of the half period there. -/
theorem step_apply (u w : FVec Ideal S1x1280 .f32) (t : Vec Ideal S8x1 .f32) (x : S8x1280.Idx) :
    k0_pay6 (F := Ideal) u w t x
      = cell (FloatOps.addf (FloatOps.mulf (t (ix2 (x 0) 0)) (u (ix2 0 (x 1)))) (w (ix2 0 (x 1)))) := by
  have ht : broadcastTo S8x1280 (shapeCast S8x1 t shapeCasts_S8x1_S8x1) broadcasts_S8x1_S8x1280 x = t (ix2 (x 0) 0) := by
    rw [shapeCast_self]
    exact broadcastTo_apply _ _ _ _ (fun a => by match a with | ⟨0, _⟩ => rfl | ⟨1, _⟩ => rfl)
  have hl : ∀ v : FVec Ideal S1x1280 .f32, broadcastTo S8x1280 v broadcasts_S1x1280_S8x1280 x = v (ix2 0 (x 1)) := fun v =>
    broadcastTo_apply _ _ _ _ (fun a => by match a with | ⟨0, _⟩ => rfl | ⟨1, _⟩ => rfl)
  rw [← ht, ← hl u, ← hl w]
  rfl

/-- The row step stored at rows `o … o + 7` is those rows of `E`. -/
theorem row (x0 : Vec Ideal S2048x1 .f32) (o : ℕ) (h1 : ∀ a, (![o, 0] : Fin 2 → ℕ) a + S8x1.size a ≤ S2048x1.size a)
    (h2 : ∀ a, (![o, 0] : Fin 2 → ℕ) a + S8x1280.size a ≤ S2048x1280.size a) (x : S8x1280.Idx) :
    E x0 ((Rect.unit (s := S2048x1280) ![o, 0] S8x1280.size h2).emb x)
      = k0_pay6 (F := Ideal) (k0_pay2 (F := Ideal)) (k0_pay3 (F := Ideal))
          (View.ld x0 (Rect.unit (s := S2048x1) ![o, 0] S8x1.size h1)) x := by
  rw [step_apply]
  have ha : (ix2 ((Rect.unit (s := S2048x1280) ![o, 0] S8x1280.size h2).emb x 0) 0 : S2048x1.Idx)
      = (Rect.unit (s := S2048x1) ![o, 0] S8x1.size h1).idx (ix2 (x 0) 0) := by
    funext a; match a with | ⟨0, _⟩ => rfl | ⟨1, _⟩ => rfl
  have hb : (ix2 0 ((Rect.unit (s := S2048x1280) ![o, 0] S8x1280.size h2).emb x 1) : S1x1280.Idx) = ix2 0 (x 1) := by
    funext a
    match a with
    | ⟨0, _⟩ => rfl
    | ⟨1, _⟩ => apply Fin.ext; show 0 + 1 * (x 1).val = (x 1).val; omega
  unfold E
  rw [ha, hb]
  rfl

/-- The 8 rows that lie in the output block lie in the time block too. -/
theorem rows_in (o : ℕ) (h2 : ∀ a, (![o, 0] : Fin 2 → ℕ) a + S8x1280.size a ≤ S2048x1280.size a) :
    ∀ a, (![o, 0] : Fin 2 → ℕ) a + S8x1.size a ≤ S2048x1.size a := fun a => by
  match a with
  | ⟨0, _⟩ => exact h2 ⟨0, by decide⟩
  | ⟨1, _⟩ => exact Nat.le_refl 1

/-- So a list of stores whose head is the row step at rows `o … o + 7` is made of blocks of `E` when its tail is. -/
theorem step (x0 : Vec Ideal S2048x1 .f32) (o : ℕ)
    (h2 : ∀ a, (![o, 0] : Fin 2 → ℕ) a + S8x1280.size a ≤ S2048x1280.size a) (w : S8x1280.Idx → Ideal .f32)
    (L : List (View.Piece (Elt Ideal) S2048x1280 .f32))
    (hw : w = k0_pay6 (F := Ideal) (k0_pay2 (F := Ideal)) (k0_pay3 (F := Ideal))
      (View.ld x0 (Rect.unit (s := S2048x1) ![o, 0] S8x1.size (rows_in o h2))))
    (hL : View.PiecesOf (Val := Elt Ideal) (e := .f32) (E x0) L) :
    View.PiecesOf (Val := Elt Ideal) (e := .f32) (E x0)
      (⟨Rect.unit (s := S2048x1280) ![o, 0] S8x1280.size h2, w⟩ :: L) := by
  unfold View.PiecesOf
  refine And.intro ?_ hL
  intro x
  refine Eq.trans ?_ (row x0 o (rows_in o h2) h2 x).symm
  show w x = _
  rw [hw]

set_option maxHeartbeats 0 in
/-- The body's output block is `E` of its time block. -/
theorem out_eq (x0 : Vec Ideal S2048x1 .f32) : out0_1 (F := Ideal) x0 = E x0 := by
  funext y
  unfold out0_1
  dsimp (config := { zetaHave := true }) only
  refine View.canon_apply_of_pieces (Val := Elt Ideal) (e := .f32) (E x0) _ (View.PiecesOf.mem ?_) y ?_
  swap
  · apply cover0_1
  repeat (refine step x0 _ _ _ _ ?_ ?_; · rfl)
  exact trivial

end Cert.Block
-- ==== Proof.KernelArray.lean ====
/- The kernel's result array, element by element, over the reals: at a real time `t` in the range the precondition gives,
   the element at lane `q` is the cubic at the signed distance of the half period from its nearest integer. -/
module

public import proofs.«01_k».proof.Proof.Lanes
public import proofs.«01_k».proof.Proof.Block
public import Idealize.ShloMosaic.Lib.Pipeline.ValueKit

@[expose] public section

noncomputable section

namespace Cert.KernelArray

open Cert.KernelIdeal Cert.KernelIdeal.Gen Idealize.ShloMosaic Idealize.ShloMosaic.TcCoe
open Idealize.SL.Sem Cert.Sine Cert.Reduce Cert.Lanes Cert.Block

/-! ## The lane vectors -/

/-- The word of the lane's number, at lane `q`. -/
abbrev word (q : Fin 1280) : BitVec 32 := iota .tc S1x1280 32 [1] iota_S1x1280_d1_w32 (ValueIdx.ix2 0 q)

/-- It is the lane's number. -/
theorem word_eq (q : Fin 1280) : word q = BitVec.ofNat 32 q.val := by
  show BitVec.ofNat 32 (0 * 1280 + q.val) = _
  rw [Nat.zero_mul, Nat.zero_add]

/-- The kernel's rate at lane `q`, with `1/π` multiplied in. -/
theorem rate_lane (q : Fin 1280) : k0_pay2 (F := Ideal) (ValueIdx.ix2 0 q) = ((rate q.val * Real.pi⁻¹ : ℝ) : EReal) := by
  have h : k0_pay2 (F := Ideal) (ValueIdx.ix2 0 q)
      = FloatOps.mulf (FloatOps.exp (FloatOps.mulf (FloatOps.mulf (Named.named (F := Ideal) κ "step" (φ := .f32) 0x3ACCCCCD#32)
            (FloatOps.sitofp .f32 (kdiv (word q))))
          (Named.named (F := Ideal) κ "neg_log" (φ := .f32) 0xC1135D8E#32)))
        (Named.named (F := Ideal) κ "inv_pi" (φ := .f32) 0x3EA2F983#32) := rfl
  have h1 : Named.named (F := Ideal) κ "step" (φ := .f32) 0x3ACCCCCD#32 = ((1 / 640 : ℝ) : EReal) := rfl
  have h2 : Named.named (F := Ideal) κ "neg_log" (φ := .f32) 0xC1135D8E#32 = ((-(Real.log 10000) : ℝ) : EReal) := rfl
  have h3 : Named.named (F := Ideal) κ "inv_pi" (φ := .f32) 0x3EA2F983#32 = ((Real.pi⁻¹ : ℝ) : EReal) := rfl
  rw [h, h1, h2, h3, word_eq, (words q).1, sitofp_pair, Ideal.mulf_def, Ideal.mulf_def, Ideal.mulf_def, ← EReal.coe_mul,
    ← EReal.coe_mul, Ideal.exp_def, Ideal.exp_coe, ← EReal.coe_mul]
  rfl

/-- The phase at lane `q`: one half at the odd lanes. -/
theorem phase_lane (q : Fin 1280) :
    k0_pay3 (F := Ideal) (ValueIdx.ix2 0 q) = (((if q.val % 2 = 0 then 0 else 1 / 2 : ℝ)) : EReal) := by
  have h : k0_pay3 (F := Ideal) (ValueIdx.ix2 0 q)
      = FloatOps.mulf (FloatOps.sitofp (F := Ideal) .f32 (IntOp.andi (word q) 1#32))
          (FloatOps.ofBits .f32 0x3F000000#32) := rfl
  rw [h, word_eq, (words q).2.2.2, Ideal.ofBits_def, ofBits_half, Ideal.mulf_def]
  by_cases hq : q.val % 2 = 0
  · rw [if_pos hq, if_pos hq]
    have : FloatOps.sitofp (F := Ideal) .f32 0#32 = ((0 : ℝ) : EReal) := by
      show ((((0#32 : BitVec 32).toInt : ℤ) : ℝ) : EReal) = _
      norm_num
    rw [this, ← EReal.coe_mul, zero_mul]
  · rw [if_neg hq, if_neg hq]
    have : FloatOps.sitofp (F := Ideal) .f32 1#32 = ((1 : ℝ) : EReal) := by
      show ((((1#32 : BitVec 32).toInt : ℤ) : ℝ) : EReal) = _
      norm_num
    rw [this, ← EReal.coe_mul, one_mul]

/-- One element of the kernel at a real time in range. -/
theorem cell_value (t : ℝ) (ht : |t| ≤ 4294967296) (q : Fin 1280) :
    cell (FloatOps.addf (FloatOps.mulf ((t : EReal) : Ideal .f32) (k0_pay2 (F := Ideal) (ValueIdx.ix2 0 q)))
      (k0_pay3 (F := Ideal) (ValueIdx.ix2 0 q))) = ((cubic (signed (half t q.val)) : ℝ) : EReal) := by
  rw [rate_lane, phase_lane, Ideal.mulf_def, Ideal.addf_def, ← EReal.coe_mul, ← EReal.coe_add]
  exact cell_coe (half t q.val) (half_bound t q.val ht)

/-! ## The array -/

variable (m : (ℓ : Loc nD τ sig) → Buf (Elt Ideal) ℓ) (ρ : Dev nD → PrngReg)

/-- The time an element of the result reads. -/
def at0 (i : S65536x1280.Idx) : S65536.Idx := fun a => match a with | ⟨0, _⟩ => ⟨(i 0).val, (i 0).isLt⟩

/-- The result array as one function of the times. -/
def G (a : Vec Ideal S65536 .f32) (i : S65536x1280.Idx) : Ideal .f32 :=
  cell (FloatOps.addf (FloatOps.mulf (a (at0 i)) (k0_pay2 (F := Ideal) (ValueIdx.ix2 0 (i 1)))) (k0_pay3 (F := Ideal) (ValueIdx.ix2 0 (i 1))))

/-- The column of times the kernel reads is the argument, reshaped. -/
theorem V_main_v0 (c : Dev nD) :
    V m c main_v0 = shapeCast S65536x1 (m ((c : Thread nD τ).loc main_arg0)) shapeCasts_S65536_S65536x1 := by
  show StableHlo.after hostOps0 _ (Proc.devRef .tc main_v0) = _
  after_results
  rfl

/-- The reshape to a column keeps the row. -/
theorem column_apply (a : Vec Ideal S65536 .f32) (k : S65536x1.Idx) (j : S65536.Idx) (h : (j 0).val = (k 0).val) :
    shapeCast S65536x1 a shapeCasts_S65536_S65536x1 k = a j := by
  unfold shapeCast
  congr 1
  apply Shape.reshapeEquiv_eq_of_rowMajor
  have hk : (k 1).val = 0 := by have : (k 1).val < 1 := (k 1).isLt; omega
  show (Shape.rowMajorPi S65536.size j).val = (Shape.rowMajorPi S65536x1.size k).val
  rw [Shape.rowMajorPi_succ_val, Shape.rowMajorPi_succ_val, Shape.rowMajorPi_succ_val]
  simp [Fin.prod_univ_succ, Shape.rowMajorPi_zero, h, hk]

/-- The time block of grid point `t` is the `t`-th block of 2048 rows. -/
theorem index_in : ∀ t : Fin cfg0.N, win0_0.index t = ![t.val, 0] := (by decide +kernel : ∀ t : Fin grid0.N, _)
/-- So is the output block, over all lanes. -/
theorem index_out : ∀ t : Fin cfg0.N, win0_1.index t = ![t.val, 0] := (by decide +kernel : ∀ t : Fin grid0.N, _)

/-- The kernel's result array after the run. -/
theorem final (c : Dev nD) : (dats m 0 c).arrAt 1 cfg0.N = G (m ((c : Thread nD τ).loc main_arg0)) := by
  refine (dats m 0 c).arrAt_eq_of_covers 1 _ (by decide +kernel) fun t hf y => ?_
  blk_simp
  rw [after0_1, out_eq]
  have ei := congrFun (index_in t) (0 : Fin 2)
  have eo := congrFun (index_out t) (0 : Fin 2)
  have eo1 := congrFun (index_out t) (1 : Fin 2)
  have hr : (((win0_1.blk t).view.emb y) 0).val = t.val * 2048 + (y 0).val := by
    show win0_1.index t (0 : Fin 2) * 2048 + 1 * (y 0).val = _
    rw [eo]; show t.val * 2048 + _ = _; omega
  have hl : ((win0_1.blk t).view.emb y) 1 = y 1 := by
    apply Fin.ext
    show win0_1.index t (1 : Fin 2) * 1280 + 1 * (y 1).val = _
    rw [eo1]; show 0 * 1280 + _ = _; omega
  have hb : iblk m c 0 t (ValueIdx.ix2 (y 0) 0)
      = m ((c : Thread nD τ).loc main_arg0) (at0 ((win0_1.blk t).view.emb y)) := by
    show V m c main_v0 (((cfg0.win 0).blk t).view.emb (ValueIdx.ix2 (y 0) 0)) = _
    rw [V_main_v0]
    refine column_apply _ _ _ ?_
    show (((win0_1.blk t).view.emb y) 0).val = win0_0.index t (0 : Fin 2) * 2048 + 1 * (y 0).val
    rw [hr, ei]; show _ = t.val * 2048 + _; omega
  unfold E G
  rw [hb, hl]

/-- The run of the kernel with its result array as one function of the times, the times unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

/-- One element of the result at a real time in range. -/
theorem G_value (a : Vec Ideal S65536 .f32) (i : S65536x1280.Idx) (t : ℝ) (h : a (at0 i) = (t : EReal))
    (ht : |t| ≤ 4294967296) : G a i = ((cubic (signed (half t (i 1).val)) : ℝ) : EReal) := by
  unfold G
  rw [h]
  exact cell_value t ht (i 1)

end Cert.KernelArray
-- ==== Proof.Reference.lean ====
/- The reference's result, element by element, over the reals: at a real time `t` and lane `q`, its sine or cosine is
   `wave t q`, and its result is the cubic at `arcsin (wave t q) / π`, which is the kernel's signed distance of the half
   period from its nearest integer. -/
module

public import proofs.«01_k».proof.Proof.Lanes
public import proofs.«01_k».proof.Proof.Gen.ReferenceIdeal.Read

@[expose] public section

noncomputable section

namespace Cert.Reference

open Cert.ReferenceIdeal Cert.ReferenceIdeal.Read Idealize.ShloMosaic Cert.Sine Cert.Reduce Cert.Lanes

/-- The lane of a lane-vector index, with its bound. -/
def lane (j : S1280.Idx) : Fin 1280 := ⟨(j 0).val, (j 0).isLt⟩

/-- The lane's pair number, as the reference computes it. -/
theorem pair_word (j : S1280.Idx) : val_main_v1 (F := Ideal) j = BitVec.ofNat 32 ((lane j).val / 2) := by
  rw [← (words (lane j)).2.1]
  simp only [val_main_v1_apply, val_main_call0_v11_apply, val_main_call0_v13_apply, val_main_call0_v2_apply,
    val_main_call0_v6_apply, val_main_call0_v10_apply, val_main_call0_v8_apply, val_main_call0_v5_apply,
    val_main_call0_v1_apply, val_main_call0_v7_apply, val_main_call0_v9_apply, val_main_call0_v12_apply]
  rfl

/-- The lane's parity, as the reference computes it. -/
theorem even_word (j : S1280.Idx) :
    val_main_v17 (F := Ideal) j = if (lane j).val % 2 = 0 then 1#1 else 0#1 := by
  rw [← (words (lane j)).2.2.1]
  simp only [val_main_v17_apply, val_main_v15_apply, val_main_call1_v12_apply, val_main_call1_v11_apply,
    val_main_call1_v6_apply, val_main_call1_v8_apply, val_main_call1_v10_apply, val_main_call1_v14_apply,
    val_main_call1_v4_apply, val_main_call1_v3_apply, val_main_call1_v5_apply, val_main_call1_v7_apply,
    val_main_call1_v13_apply, val_main_v16_apply]
  rfl

/-- The reference's rate at a lane. -/
theorem rate_value (j : S1280.Idx) : val_main_v9 (F := Ideal) j = ((rate (lane j).val : ℝ) : EReal) := by
  rw [val_main_v9_apply, val_main_v8_apply, val_main_v7_apply, val_main_v6_apply, val_main_v5_apply, val_main_v4_apply,
    val_main_v3_apply, val_main_v2_apply, val_main_cst_apply, val_main_cst_0_apply, val_main_cst_1_apply, pair_word,
    sitofp_pair, Ideal.hostPowf_def, Ideal.hostNegf_def, Ideal.hostDivf_def, Ideal.mulf_def, Ideal.ofBits_def,
    Ideal.ofBits_def, Ideal.ofBits_def, ofBits_two, ofBits_1280, ofBits_10000, ← EReal.coe_mul,
    Ideal.div_coe (by norm_num), ← EReal.coe_mul, Ideal.negf_def, ← EReal.coe_neg, Ideal.pow_coe_coe]
  exact congrArg _ (rate_eq_rpow _)

/-- The time an element of the result reads. -/
def at0 (i : S65536x1280.Idx) : S65536.Idx := fun a => match a with | ⟨0, _⟩ => ⟨(i 0).val, (i 0).isLt⟩

variable (a : (⟨S65536, .f32⟩ : BufTy).Contents (Elt Ideal)) (i : S65536x1280.Idx) (t : ℝ)

/-- The reference's angle at a real time. -/
theorem angle_value (ht : a (at0 i) = (t : EReal)) :
    val_main_v14 (F := Ideal) a i = ((t * rate (i 1).val : ℝ) : EReal) := by
  rw [val_main_v14_apply, val_main_v12_apply, val_main_v10_apply, val_main_v13_apply, val_main_v11_apply, rate_value,
    Ideal.mulf_def, EReal.coe_mul]
  exact congrArg (· * _) ht

/-- The reference's sine or cosine at a real time. -/
theorem wave_value (ht : a (at0 i) = (t : EReal)) :
    val_main_v21 (F := Ideal) a i = ((wave t (i 1).val : ℝ) : EReal) := by
  rw [val_main_v21_apply, val_main_call2_v0_apply, val_main_v18_apply, even_word, val_main_v19_apply, val_main_v20_apply,
    angle_value a i t ht, Ideal.hostUnary_sin_def, Ideal.hostUnary_cos_def, Ideal.sin_coe, Ideal.cos_coe]
  unfold Scalar.select wave
  show (if (if (i 1).val % 2 = 0 then 1#1 else 0#1) = 1 then _ else _) = _
  by_cases h : (i 1).val % 2 = 0
  · rw [if_pos h, if_pos (show (1#1 : BitVec 1) = 1 from rfl), if_pos h]
  · rw [if_neg h, if_neg (show ¬(0#1 : BitVec 1) = 1 by decide), if_neg h]

/-- Twice the arcsine of 1 is `π`. -/
theorem turn_value (k : S_.Idx) : val_main_v23 (F := Ideal) k = ((Real.pi : ℝ) : EReal) := by
  rw [val_main_v23_apply, val_main_v22_apply, val_main_cst_5_apply, val_main_cst_4_apply, Ideal.ofBits_def,
    Ideal.ofBits_def, ofBits_two, ofBits_one, Ideal.hostUnary_asin_def, Ideal.asin_coe, if_pos (by norm_num),
    Real.arcsin_one, Ideal.mulf_def, ← EReal.coe_mul]
  congr 1
  ring

/-- The reference's argument of the cubic at a real time. -/
theorem arg_value (ht : a (at0 i) = (t : EReal)) :
    val_main_v26 (F := Ideal) a i = ((signed (half t (i 1).val) : ℝ) : EReal) := by
  rw [val_main_v26_apply, val_main_v25_apply, turn_value, val_main_v24_apply, wave_value a i t ht,
    Ideal.hostUnary_asin_def, Ideal.asin_coe, if_pos (wave_bounds _ _), Ideal.hostDivf_def,
    Ideal.div_coe Real.pi_ne_zero, ← EReal.coe_mul, ← arcsin_sin, sin_half, ← div_eq_mul_one_div]

/-- The reference's result at a real time. -/
theorem result_value (ht : a (at0 i) = (t : EReal)) :
    val_main_v33 (F := Ideal) a i = ((cubic (signed (half t (i 1).val)) : ℝ) : EReal) := by
  rw [val_main_v33_apply, val_main_v28_apply, val_main_v32_apply, val_main_v27_apply, val_main_v31_apply,
    val_main_v30_apply, val_main_v29_apply, val_main_cst_6_apply, val_main_cst_7_apply, arg_value a i t ht]
  simp only [Ideal.mulf_def, Ideal.addf_def, Ideal.ofBits_def, ofBits_C1, ofBits_C3, ← EReal.coe_mul, ← EReal.coe_add]
  rfl

end Cert.Reference
-- ==== Proof.Conditions.lean ====
/- What the precondition and the postcondition say of the extended reals: `in_range` gives a real time of magnitude at most
   2^32 at every row, and `close` holds of an array that is real and within the tolerance of the sine or cosine at every
   element. -/
module

public import proofs.«01_k».proof.Defs
public import proofs.«01_k».proof.Proof.Reference

@[expose] public section

noncomputable section

namespace Cert.Conditions

open Idealize.ShloMosaic Cert.Sine Cert.Reduce Cert.Lanes Cert.Reference

/-- The side condition that the precondition states. -/
theorem pre_facts : Cert.Pre_in_range.Facts where
  bcast_S_S65536 := by decide

/-- The side conditions that the postcondition states: the reference has the same ones. -/
theorem post_facts : Cert.Post_close.Facts where
  bcast_S_S1280 := Cert.ReferenceIdeal.Gen.bcast_S_S1280
  bcast_S65536_S65536x1_0 := Cert.ReferenceIdeal.Gen.bcast_S65536_S65536x1_0
  bcast_S1280_S1x1280_1 := Cert.ReferenceIdeal.Gen.bcast_S1280_S1x1280_1
  bcast_S65536x1_S65536x1280_0_1 := Cert.ReferenceIdeal.Gen.bcast_S65536x1_S65536x1280_0_1
  bcast_S1x1280_S65536x1280_0_1 := Cert.ReferenceIdeal.Gen.bcast_S1x1280_S65536x1280_0_1
  bcast_S_S65536x1280 := Cert.ReferenceIdeal.Gen.bcast_S_S65536x1280

/-- The comparison "at most" answers one exactly when the order holds. -/
theorem ole_iff (x y : EReal) : Ideal.cmp .ole x y = 1#1 ↔ x ≤ y := by
  show BitVec.ofBool (decide (x ≤ y)) = 1#1 ↔ _
  by_cases h : x ≤ y
  · simp [h]
  · simp [h]

/-- An extended real whose magnitude is at most a real number is a real of at most that magnitude. -/
theorem real_of_abs_le (x : EReal) (b : ℝ) (h : max x (-x) ≤ (b : EReal)) : ∃ t : ℝ, x = (t : EReal) ∧ |t| ≤ b := by
  have h1 : x ≤ (b : EReal) := le_trans (le_max_left _ _) h
  have h2 : -x ≤ (b : EReal) := le_trans (le_max_right _ _) h
  induction x using EReal.rec with
  | bot => exact absurd h2 (by rw [EReal.neg_bot]; exact not_le.mpr (EReal.coe_lt_top b))
  | top => exact absurd h1 (not_le.mpr (EReal.coe_lt_top b))
  | coe t =>
    refine ⟨t, rfl, abs_le.mpr ⟨?_, EReal.coe_le_coe_iff.mp h1⟩⟩
    rw [← EReal.coe_neg] at h2
    have := EReal.coe_le_coe_iff.mp h2
    linarith

/-- Under the precondition every time is a real of magnitude at most 2^32. -/
theorem in_range_real [hF : Cert.Pre_in_range.Facts] (a : Vec Ideal Cert.ReferenceIdeal.S65536 .f32)
    (h : Cert.Pre_in_range.fn (F := Ideal) a = fun _ => 1#1) (j : Cert.ReferenceIdeal.S65536.Idx) :
    ∃ t : ℝ, a j = (t : EReal) ∧ |t| ≤ 4294967296 := by
  have h0 : Ideal.cmp .ole (max (a j) (-(a j))) (Ideal.ofBits .f32 0x4F800000#32) = 1#1 := congrFun h j
  rw [ofBits_range] at h0
  exact real_of_abs_le _ _ ((ole_iff _ _).mp h0)

/-- The postcondition at one element: the distance from the reference's sine or cosine, compared with the tolerance. -/
theorem close_apply [hF : Cert.Post_close.Facts] (a : Vec Ideal Cert.ReferenceIdeal.S65536 .f32)
    (v : Vec Ideal Cert.ReferenceIdeal.S65536x1280 .f32) :
    Cert.Post_close.fn (F := Ideal) a v
      = cmpf (F := Ideal) (φ := .f32) .ole (Host.absf (subf v (Cert.ReferenceIdeal.Read.val_main_v21 (F := Ideal) a)))
          (broadcastInDim Cert.ReferenceIdeal.S65536x1280 ![] hF.bcast_S_S65536x1280
            (constant Cert.ReferenceIdeal.S_ .f32 0x3C23D70A#32)) := rfl

/-- An array that holds the cubic at the signed distance at every element meets the postcondition. -/
theorem close_of_cubic [hF : Cert.Post_close.Facts] (a : Vec Ideal Cert.ReferenceIdeal.S65536 .f32)
    (v : Vec Ideal Cert.ReferenceIdeal.S65536x1280 .f32)
    (h : ∀ i, ∃ t : ℝ, a (at0 i) = (t : EReal) ∧ v i = ((cubic (signed (half t (i 1).val)) : ℝ) : EReal)) :
    Cert.Post_close.fn (F := Ideal) a v = fun _ => 1#1 := by
  rw [close_apply]
  funext i
  obtain ⟨t, ht, hv⟩ := h i
  show Ideal.cmp .ole (max (v i - Cert.ReferenceIdeal.Read.val_main_v21 (F := Ideal) a i)
    (-(v i - Cert.ReferenceIdeal.Read.val_main_v21 (F := Ideal) a i))) (Ideal.ofBits .f32 0x3C23D70A#32) = 1#1
  rw [ole_iff, hv, wave_value a i t ht, ofBits_T, ← EReal.coe_sub, ← EReal.coe_neg, ← sin_half]
  have hb := abs_le.mp (signed_close (half t (i 1).val))
  refine max_le (EReal.coe_le_coe_iff.mpr hb.2) (EReal.coe_le_coe_iff.mpr ?_)
  linarith [hb.1]

end Cert.Conditions
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.Reference
public import proofs.«01_k».proof.Proof.Conditions
public import Idealize.ShloMosaic.Adequacy
public import Idealize.ShloMosaic.Init

@[expose] public section

noncomputable section

namespace Cert.Proof

open Idealize.ShloMosaic Idealize.ShloMosaic.TcCoe Idealize.SL.Sem Cert.Sine Cert.Reduce Cert.Lanes

/-- Kernel and reference read the same time for an element of the result. -/
theorem at0_eq (i : Cert.ReferenceIdeal.S65536x1280.Idx) : Cert.KernelArray.at0 i = Cert.Reference.at0 i := rfl

/-- From the precondition: at every element a real time, and there the kernel's value. -/
theorem kernel_value [Cert.Pre_in_range.Facts] (a : Vec Ideal Cert.ReferenceIdeal.S65536 .f32)
    (h : Cert.Pre_in_range.fn (F := Ideal) a = fun _ => 1#1) (i : Cert.ReferenceIdeal.S65536x1280.Idx) :
    ∃ t : ℝ, a (Cert.Reference.at0 i) = (t : EReal)
      ∧ Cert.KernelArray.G a i = ((cubic (signed (half t (i 1).val)) : ℝ) : EReal) := by
  obtain ⟨t, ht, hb⟩ := Cert.Conditions.in_range_real a h (Cert.Reference.at0 i)
  exact ⟨t, ht, Cert.KernelArray.G_value a i t ((congrArg a (at0_eq i)).trans ht) hb⟩

/-- Under the precondition the kernel's array is the reference's. -/
theorem arrays_eq [Cert.Pre_in_range.Facts] (a : Vec Ideal Cert.ReferenceIdeal.S65536 .f32)
    (h : Cert.Pre_in_range.fn (F := Ideal) a = fun _ => 1#1) :
    Cert.ReferenceIdeal.Read.val_main_v33 (F := Ideal) a = Cert.KernelArray.G a := by
  funext i
  obtain ⟨t, ht, hv⟩ := kernel_value a h i
  rw [hv]
  exact Cert.Reference.result_value a i t ht

/-- The reference runs, leaves the times unchanged, and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The kernel's three rounded constants name 1/640, the negated logarithm of 10000 and the inverse of `π`. -/
theorem named : Cert.preserves_Kernel_KernelIdeal :=
  ⟨IdealRules.named_const.statement Cert.KernelIdeal.κ "step" .f32 0x3ACCCCCD#32 ((1 / 640 : ℝ) : EReal) rfl,
   IdealRules.named_const.statement Cert.KernelIdeal.κ "neg_log" .f32 0xC1135D8E#32 ((-(Real.log 10000) : ℝ) : EReal) rfl,
   IdealRules.named_const.statement Cert.KernelIdeal.κ "inv_pi" .f32 0x3EA2F983#32 ((Real.pi⁻¹ : ℝ) : EReal) rfl⟩

/-- The kernel and the reference end with the same array. -/
theorem equal [Cert.Pre_in_range.Facts] : Cert.algebraic_KernelIdeal_ReferenceIdeal_pre_in_range := by
  intro m g m' g' hpre hargs
  refine ⟨fun c => Cert.KernelArray.G (m ((c.tc : Thread Cert.KernelIdeal.nD Cert.KernelIdeal.τ).loc Cert.KernelIdeal.main_arg0)), Cert.KernelArray.run m g, ?_⟩
  refine (θ_run Cert.ReferenceIdeal.defs _ _).mono (fun r h c => ⟨?_, (h c).2⟩) (Cert.ReferenceIdeal.Value.run m' g')
  refine (h c).1.trans ((Cert.ReferenceIdeal.Read.val_main_v33_eq m' c).trans ?_)
  rw [hargs c]
  exact arrays_eq _ (hpre c)

/-- The kernel's array is within the tolerance of the sine or cosine. -/
theorem near [Cert.Pre_in_range.Facts] [Cert.Post_close.Facts] : Cert.holds_KernelIdeal_close_pre_in_range := by
  intro m g hpre
  refine (θ_run Cert.KernelIdeal.defs _ _).mono (fun r h c => ⟨(h c).2, ?_⟩) (Cert.KernelArray.run m g)
  rw [(h c).1]
  exact Cert.Conditions.close_of_cubic _ _ (kernel_value _ (hpre c))

/-- All the claims of the statement. -/
theorem claim : Cert.Claim :=
  ⟨Cert.Kernel.Gen.facts, Cert.KernelIdeal.Gen.facts, Cert.ReferenceIdeal.Gen.facts, Cert.Conditions.pre_facts,
    Cert.Conditions.post_facts, fun m g _ => Cert.Kernel.Gen.frame m g, fun m g _ => Cert.KernelIdeal.Gen.frame m g,
    fun m g _ => Cert.KernelIdeal.Gen.frame m g, fun m g _ => frame_reference m g, fun m g _ => frame_reference m g, named,
    letI := Cert.Conditions.pre_facts; equal,
    letI := Cert.Conditions.pre_facts; letI := Cert.Conditions.post_facts; near⟩

end Cert.Proof

end
